-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_not_negative [hPre_ids_not_negative : Cert.Pre_ids_not_negative.Facts] (m : (ℓ : Loc Cert.KernelIdeal.nD Cert.KernelIdeal.τ Cert.KernelIdeal.sig) → Buf (Elt Ideal) ℓ) : Prop :=
  ∀ c : Dev Cert.KernelIdeal.nD,
    (Cert.Pre_ids_not_negative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_not_negative [hPre_ids_not_negative : Cert.Pre_ids_not_negative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_not_negative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ids_not_negative [hKernelIdeal : Cert.KernelIdeal.Facts] [hPre_ids_not_negative : Cert.Pre_ids_not_negative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_not_negative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_not_negative [hReferenceIdeal : Cert.ReferenceIdeal.Facts] [hPre_ids_not_negative : Cert.Pre_ids_not_negative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_not_negative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ids_not_negative [hKernelIdeal : Cert.KernelIdeal.Facts] [hReferenceIdeal : Cert.ReferenceIdeal.Facts] [hPre_ids_not_negative : Cert.Pre_ids_not_negative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_not_negative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_not_negative : Cert.Pre_ids_not_negative.Facts),
    quiescent_Kernel (hKernel := hKernel)
    ∧ quiescent_KernelIdeal (hKernelIdeal := hKernelIdeal)
    ∧ quiescent_KernelIdeal_pre_ids_not_negative (hKernelIdeal := hKernelIdeal) (hPre_ids_not_negative := hPre_ids_not_negative)
    ∧ quiescent_ReferenceIdeal (hReferenceIdeal := hReferenceIdeal)
    ∧ quiescent_ReferenceIdeal_pre_ids_not_negative (hReferenceIdeal := hReferenceIdeal) (hPre_ids_not_negative := hPre_ids_not_negative)
    ∧ preserves_Kernel_KernelIdeal
    ∧ algebraic_KernelIdeal_ReferenceIdeal_pre_ids_not_negative (hKernelIdeal := hKernelIdeal) (hReferenceIdeal := hReferenceIdeal) (hPre_ids_not_negative := hPre_ids_not_negative)
-- ==== Pre_ids_not_negative.lean ====
abbrev S4x512 : Shape := ⟨2, ![4, 512]⟩
abbrev S_ : Shape := ⟨0, ![]⟩

class Facts : Prop where
  bcast_S_S4x512 : S_.BroadcastsInDim S4x512 (![] : Fin 0 → Fin S4x512.rank)
  reducesTo_S4x512_S_d0_1 : S4x512.ReducesTo [0, 1] S_
  h_S_ : 0 < S_.numel

variable [Facts]

def fn {F : FTy → Type} [FloatOps F] (main_arg0 : FVec F S4x512 .f32) (main_arg1 : IVec S4x512 32) : IVec S_ 1 :=
  let main_c : IVec S_ 32 := constantI S_ 32 0#32
  let main_v0 : IVec S4x512 32 := broadcastInDim S4x512 ![] bcast_S_S4x512 main_c
  let main_v1 : IVec S4x512 1 := cmpi .sge main_arg1 main_v0
  let main_c_0 : IVec S_ 1 := constantI S_ 1 1#1
  let main_v2 : IVec S_ 1 := (fun x v => Host.reduce IntOp.andi x v reducesTo_S4x512_S_d0_1 h_S_) main_v1 main_c_0
  main_v2
-- ==== Kernel.lean ====
abbrev S4x512 : Shape := ⟨2, ![4, 512]⟩
abbrev S2048x32768 : Shape := ⟨2, ![2048, 32768]⟩
abbrev S512x4096 : Shape := ⟨2, ![512, 4096]⟩
abbrev S1x512 : Shape := ⟨2, ![1, 512]⟩
abbrev S512 : Shape := ⟨1, ![512]⟩
abbrev S512x1 : Shape := ⟨2, ![512, 1]⟩
abbrev S4x512x32768 : Shape := ⟨3, ![4, 512, 32768]⟩

abbrev nBuf : Space → Nat
  | .hbm => 4
  | .vmem => 4
  | .smem => 0
  | _ => 0

abbrev bufTy : (tb : Table) → Fin (tcTables nBuf tb) → BufTy
  | .hbm, ⟨0, _⟩ => ⟨S4x512, .f32⟩
  | .hbm, ⟨1, _⟩ => ⟨S4x512, .i32⟩
  | .hbm, ⟨2, _⟩ => ⟨S2048x32768, .f32⟩
  | .hbm, ⟨3, _⟩ => ⟨S4x512x32768, .f32⟩
  | .local _ .vmem, ⟨0, _⟩ => ⟨S4x512, .f32⟩
  | .local _ .vmem, ⟨1, _⟩ => ⟨S4x512, .i32⟩
  | .local _ .vmem, ⟨2, _⟩ => ⟨S512x4096, .f32⟩
  | .local _ .vmem, ⟨3, _⟩ => ⟨S512x4096, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨2, ![4, 8], ![false, false]⟩

def k0_off1 (i : grid0.Coords) : Fin 2 → Nat :=
  let arg0 : BitVec 32 := BitVec.ofNat 32 (i 0).val
  let v0 : Index := Scalar.indexCast arg0
  let c0 : Index := 0#32
  ![v0.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S4x512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S4x512 : Shape := ⟨2, ![4, 512]⟩
abbrev S_ : Shape := ⟨0, ![]⟩
abbrev S4x512x1 : Shape := ⟨3, ![4, 512, 1]⟩
abbrev S1x1x32768 : Shape := ⟨3, ![1, 1, 32768]⟩
abbrev S4x512x32768 : Shape := ⟨3, ![4, 512, 32768]⟩
abbrev S4 : Shape := ⟨1, ![4]⟩
abbrev S512 : Shape := ⟨1, ![512]⟩
abbrev S1x4x512 : Shape := ⟨3, ![1, 4, 512]⟩
abbrev S2x4x512 : Shape := ⟨3, ![2, 4, 512]⟩
abbrev S4x512x3 : Shape := ⟨3, ![4, 512, 3]⟩

abbrev nBuf : Space → Nat
  | .hbm => 69
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S4x512, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S4x512, .f32⟩
  | .hbm, ⟨6, _⟩ => ⟨S4x512, .f32⟩
  | .hbm, ⟨7, _⟩ => ⟨S_, .f32⟩
  | .hbm, ⟨8, _⟩ => ⟨S4x512, .f32⟩
  | .hbm, ⟨9, _⟩ => ⟨S4x512, .f32⟩
  | .hbm, ⟨10, _⟩ => ⟨S4x512, .f32⟩
  | .hbm, ⟨11, _⟩ => ⟨S4x512, .f32⟩
  | .hbm, ⟨12, _⟩ => ⟨S_, .f32⟩
  | .hbm, ⟨13, _⟩ => ⟨S4x512, .f32⟩
  | .hbm, ⟨14, _⟩ => ⟨S4x512, .f32⟩
  | .hbm, ⟨15, _⟩ => ⟨S_, .f32⟩
  | .hbm, ⟨16, _⟩ => ⟨S4x512, .f32⟩
  | .hbm, ⟨17, _⟩ => ⟨S4x512, .f32⟩
  | .hbm, ⟨18, _⟩ => ⟨S_, .i32⟩
  | .hbm, ⟨19, _⟩ => ⟨S4x512, .i32⟩
  | .hbm, ⟨20, _⟩ => ⟨S4x512x1, .i32⟩
  | .hbm, ⟨21, _⟩ => ⟨S1x1x32768, .i32⟩
  | .hbm, ⟨22, _⟩ => ⟨S4x512x32768, .i32⟩
  | .hbm, ⟨23, _⟩ => ⟨S4x512x32768, .i32⟩
  | .hbm, ⟨24, _⟩ => ⟨S4x512x32768, .i1⟩
  | .hbm, ⟨25, _⟩ => ⟨S4x512x32768, .f32⟩
  | .hbm, ⟨26, _⟩ => ⟨S4x512x1, .f32⟩
  | .hbm, ⟨27, _⟩ => ⟨S_, .f32⟩
  | .hbm, ⟨28, _⟩ => ⟨S4x512x1, .f32⟩
  | .hbm, ⟨29, _⟩ => ⟨S4x512x1, .f32⟩
  | .hbm, ⟨30, _⟩ => ⟨S4x512x32768, .f32⟩
  | .hbm, ⟨31, _⟩ => ⟨S4x512x32768, .f32⟩
  | .hbm, ⟨32, _⟩ => ⟨S4, .i32⟩
  | .hbm, ⟨33, _⟩ => ⟨S4x512, .i32⟩
  | .hbm, ⟨34, _⟩ => ⟨S512, .i32⟩
  | .hbm, ⟨35, _⟩ => ⟨S4x512, .i32⟩
  | .hbm, ⟨36, _⟩ => ⟨S1x4x512, .i32⟩
  | .hbm, ⟨37, _⟩ => ⟨S1x4x512, .i32⟩
  | .hbm, ⟨38, _⟩ => ⟨S2x4x512, .i32⟩
  | .hbm, ⟨39, _⟩ => ⟨S1x4x512, .i32⟩
  | .hbm, ⟨40, _⟩ => ⟨S4x512, .i32⟩
  | .hbm, ⟨41, _⟩ => ⟨S1x4x512, .i32⟩
  | .hbm, ⟨42, _⟩ => ⟨S4x512, .i32⟩
  | .hbm, ⟨43, _⟩ => ⟨S_, .i32⟩
  | .hbm, ⟨44, _⟩ => ⟨S4x512, .i32⟩
  | .hbm, ⟨45, _⟩ => ⟨S4x512, .i1⟩
  | .hbm, ⟨46, _⟩ => ⟨S_, .i32⟩
  | .hbm, ⟨47, _⟩ => ⟨S4x512, .i32⟩
  | .hbm, ⟨48, _⟩ => ⟨S4x512, .i32⟩
  | .hbm, ⟨49, _⟩ => ⟨S4x512, .i32⟩
  | .hbm, ⟨50, _⟩ => ⟨S_, .i32⟩
  | .hbm, ⟨51, _⟩ => ⟨S4x512, .i32⟩
  | .hbm, ⟨52, _⟩ => ⟨S4x512, .i1⟩
  | .hbm, ⟨53, _⟩ => ⟨S_, .i32⟩
  | .hbm, ⟨54, _⟩ => ⟨S4x512, .i32⟩
  | .hbm, ⟨55, _⟩ => ⟨S4x512, .i32⟩
  | .hbm, ⟨56, _⟩ => ⟨S4x512, .i32⟩
  | .hbm, ⟨57, _⟩ => ⟨S_, .i32⟩
  | .hbm, ⟨58, _⟩ => ⟨S4x512, .i32⟩
  | .hbm, ⟨59, _⟩ => ⟨S4x512, .i1⟩
  | .hbm, ⟨60, _⟩ => ⟨S_, .i32⟩
  | .hbm, ⟨61, _⟩ => ⟨S4x512, .i32⟩
  | .hbm, ⟨62, _⟩ => ⟨S4x512, .i32⟩
  | .hbm, ⟨63, _⟩ => ⟨S4x512, .i32⟩
  | .hbm, ⟨64, _⟩ => ⟨S4x512x1, .i32⟩
  | .hbm, ⟨65, _⟩ => ⟨S4x512x1, .i32⟩
  | .hbm, ⟨66, _⟩ => ⟨S4x512x1, .i32⟩
  | .hbm, ⟨67, _⟩ => ⟨S4x512x3, .i32⟩
  | .hbm, ⟨68, _⟩ => ⟨S4x512x32768, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v8 : Ref sig .tc := ⟨.hbm, 25, rfl⟩
abbrev main_v9 : Ref sig .tc := ⟨.hbm, 26, rfl⟩
abbrev main_cst_3 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_c_9 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩

abbrev nD : Nat := 1
abbrev τ : Topo := Topo.v7x

variable {F : FTy → Type} [FloatOps F]
-- ==== Proof.Spec.lean ====
/- The function the certificate is about, over the extended reals: one entry of the tensor both programs compute, from the
   position's log-SNR, its token id and the vocabulary index. -/
module

public import Idealize.ShloMosaic.Lib.IdealHost
public import Idealize.ShloMosaic.PureOps.Ideal
public import Idealize.ShloMosaic.PureOps.IdealRules

@[expose] public section

noncomputable section

namespace Cert.Fill

open Idealize.ShloMosaic

/-- The weight of the token: the logistic function of the log-SNR clipped to the interval from -10 to 10. -/
def alpha (x : EReal) : EReal :=
  Ideal.logistic (min (Ideal.ofBits .f32 0x41200000#32) (max (Ideal.ofBits .f32 0xC1200000#32) x))

/-- The entry at vocabulary index `v` of a position with log-SNR `x` and token id `w`: the weight on the token's own
    index, one less the weight on the mask's index 32767 (both terms when the token is the mask), zero elsewhere. -/
def entry (x : EReal) (w : BitVec 32) (v : Nat) : EReal :=
  (if v = 32767 then 1 - alpha x else 0) + (if w.toNat = v then alpha x else 0)

/-- The all-zero f32 word is the number zero. -/
theorem word_zero : Ideal.ofBits .f32 0x00000000#32 = 0 := by simp

/-- The f32 word `0x3F800000` is the number one. -/
theorem word_one : Ideal.ofBits .f32 0x3F800000#32 = 1 := by simp

/-- Away from the mask's index the entry is the weight on the token's index and zero elsewhere. -/
theorem entry_of_ne (x : EReal) (w : BitVec 32) (v : Nat) (hv : v ≠ 32767) :
    entry x w v = if w.toNat = v then alpha x else 0 := by
  rw [entry, if_neg hv, zero_add]

/-- At the mask's index the entry is one less the weight, and the weight again when the token is the mask. -/
theorem entry_mask (x : EReal) (w : BitVec 32) :
    entry x w 32767 = (1 - alpha x) + (if w.toNat = 32767 then alpha x else 0) := by
  rw [entry, if_pos rfl]

end Cert.Fill

end
-- ==== Proof.Payloads.lean ====
/- What the kernel's body stores, read at an index: the block it fills with the token weights, and the mask's column. -/
module

public import proofs.«01_k».proof.Proof.Spec
public import proofs.«01_k».proof.Proof.Gen.KernelIdeal.Skeleton
public import Idealize.ShloMosaic.Lib.Pointwise
public import Idealize.ShloMosaic.Lib.WordCmp
public import Idealize.ShloMosaic.Lib.StableHlo.Predicate

@[expose] public section

noncomputable section

namespace Cert.Fill

open Idealize.ShloMosaic Idealize.ShloMosaic.TcCoe Idealize.SL.Sem
open Cert.KernelIdeal Cert.KernelIdeal.Gen

/-- A column of block `j` is the token's id less the block's first column exactly when the id is the column's place in the
    whole row: neither side of the subtraction leaves the 32-bit range that matters. -/
theorem column_word (w : BitVec 32) (j k : Nat) (hj : j < 8) (hk : k < 4096) :
    BitVec.ofNat 32 k = w - BitVec.ofNat 32 j * 4096#32 ↔ w.toNat = j * 4096 + k := by
  rw [← BitVec.toNat_inj]
  have hw := w.isLt
  simp only [BitVec.toNat_sub, BitVec.toNat_mul, BitVec.toNat_ofNat]
  omega

/-- A select on an equality of words is the choice on that equality. -/
theorem select_eq {α : Type} (x y : BitVec 32) (a b : α) :
    Scalar.select (IntOp.cmpi .eq x y) a b = if x = y then a else b :=
  if_congr StableHlo.Predicate.cmpi_eq_iff rfl rfl

/-- The block the body stores: the token's weight in the column its id names, zero in every other column. -/
theorem fill_block (i : grid0.Coords) (v1 : Vec Ideal S1x512 .f32) (v4 : Vec Ideal S1x512 .i32) (l : Fin 512) (k : Fin 4096) :
    k0_pay3 i v1 v4 (ix2 l k)
      = if (v4 (ix2 0 l) : BitVec 32).toNat = (i 1).val * 4096 + k.val then alpha (v1 (ix2 0 l)) else 0 := by
  unfold_payloads
  pointwise
  exact (select_eq _ _ _ _).trans (if_congr (column_word _ _ _ (i 1).isLt k.isLt) rfl rfl)

/-- The mask's column the body stores over it in a row's last block. -/
theorem fill_mask (v1 : Vec Ideal S1x512 .f32) (v4 : Vec Ideal S1x512 .i32) (l : Fin 512) :
    k0_pay4 v1 v4 (ix2 l 0) = entry (v1 (ix2 0 l)) (v4 (ix2 0 l)) 32767 := by
  unfold_payloads
  pointwise
  rw [select_eq, entry_mask]
  exact congrArg _ (if_congr BitVec.toNat_inj.symm rfl rfl)

end Cert.Fill

end
-- ==== Proof.Block.lean ====
/- What one grid point leaves in its output block, read at an index: the entries of the block's rows and columns. -/
module

public import proofs.«01_k».proof.Proof.Payloads
public import proofs.«01_k».proof.Proof.Gen.KernelIdeal.Frame
public import Idealize.ShloMosaic.Lib.WritesUnit
public import Idealize.ShloMosaic.Lib.Pipeline.Value
public import Idealize.ShloMosaic.Lib.Pipeline.ValueKit.Tiles

@[expose] public section

noncomputable section

namespace Cert.Fill

open Idealize.ShloMosaic Idealize.ShloMosaic.TcCoe Idealize.SL.Sem Idealize.ShloMosaic.Tactic
open Cert.KernelIdeal Cert.KernelIdeal.Gen

/-- The row a point loads is the row its first coordinate names. -/
theorem row_offset (i : grid0.Coords) : k0_off1 i = ![(i 0).val, 0] := by
  have h : (i 0).val < 4 := (i 0).isLt
  show ![(BitVec.ofNat 32 (i 0).val).toNat, 0] = ![(i 0).val, 0]
  rw [BitVec.toNat_ofNat, Nat.mod_eq_of_lt (by omega)]

/-- The load of a point's row from a staging buffer that holds `X`, at an index: `X`'s entry of that row. -/
theorem row_load {e : EltTy} (i : grid0.Coords) (a : Fin 4) (ha : (i 0).val = a.val) (arg : Memref sig .tc .vmem S4x512 e)
    (harg : arg.IsWhole) (X : Vec Ideal S4x512 e) (l : Fin 512) :
    View.readAt (Elt Ideal) arg.view (Rect.unit (s := S4x512) (k0_off1 i) S1x512.size (k0_off1_inb i)).toLoadRect (harg.unread X)
      (ix2 (0 : Fin 1) l) = X (ix2 a l) := by
  have hoff : ∀ b : Fin 2, ((ix2 a l : S4x512.Idx) b).val = k0_off1 i b + ((ix2 (0 : Fin 1) l : S1x512.Idx) b).val :=
    fun b => (show _ = (![(i 0).val, 0] : Fin 2 → Nat) b + _ by
      rw [ha]
      fin_cases b
      · exact (Nat.add_zero _).symm
      · exact (Nat.zero_add _).symm).trans (congrArg (fun o : Fin 2 → Nat => o b + _) (row_offset i).symm)
  rw [View.readAt_eq_ld, harg.read_unread]
  exact View.ld_unit_apply_of X (k0_off1 i) S1x512.size (k0_off1_inb i) (ix2 (0 : Fin 1) l) (ix2 a l) hoff

variable (c : Dev nD) (i : grid0.Coords) (arg2 : Memref sig .tc .vmem S4x512 .f32) (harg2 : arg2.IsWhole)
  (arg3 : Memref sig .tc .vmem S4x512 .i32) (harg3 : arg3.IsWhole) (arg4 : Memref sig .tc .vmem S512x4096 .f32) (harg4 : arg4.IsWhole)
  (x0 : Vec Ideal S4x512 .f32) (x1 : Vec Ideal S4x512 .i32) (a : Fin 4) (ha : (i 0).val = a.val)

include ha

/-- The filled block with the loads read: the weight in the column the row's id names, zero elsewhere. -/
theorem fill_loaded (l : Fin 512) (k : Fin 4096) :
    k0_pay3 i (View.readAt (Elt Ideal) arg2.view (Rect.unit (s := S4x512) (k0_off1 i) S1x512.size (k0_off1_inb i)).toLoadRect (harg2.unread x0))
      (View.readAt (Elt Ideal) arg3.view (Rect.unit (s := S4x512) (k0_off1 i) S1x512.size (k0_off1_inb i)).toLoadRect (harg3.unread x1)) (ix2 l k)
      = if (x1 (ix2 a l) : BitVec 32).toNat = (i 1).val * 4096 + k.val then alpha (x0 (ix2 a l)) else 0 := by
  refine (fill_block i _ _ l k).trans ?_
  rw [row_load i a ha arg2 harg2 x0 l, row_load i a ha arg3 harg3 x1 l]

/-- The mask's column with the loads read. -/
theorem mask_loaded (l : Fin 512) :
    k0_pay4 (View.readAt (Elt Ideal) arg2.view (Rect.unit (s := S4x512) (k0_off1 i) S1x512.size (k0_off1_inb i)).toLoadRect (harg2.unread x0))
      (View.readAt (Elt Ideal) arg3.view (Rect.unit (s := S4x512) (k0_off1 i) S1x512.size (k0_off1_inb i)).toLoadRect (harg3.unread x1)) (ix2 l 0)
      = entry (x0 (ix2 a l)) (x1 (ix2 a l)) 32767 := by
  refine (fill_mask _ _ l).trans ?_
  rw [row_load i a ha arg2 harg2 x0 l, row_load i a ha arg3 harg3 x1 l]

/-- A point that is not the last of its row leaves the filled block, whose columns are all before the mask's. -/
theorem block_A (hc0 : ¬cond0_0 i) (hj : (i 1).val < 7) (l : Fin 512) (k : Fin 4096) :
    out0_A_2 c i arg2 harg2 arg3 harg3 arg4 harg4 hc0 x0 x1 (ix2 l k)
      = entry (x0 (ix2 a l)) (x1 (ix2 a l)) ((i 1).val * 4096 + k.val) := by
  have hk := k.isLt
  rw [entry_of_ne _ _ _ (by omega)]
  unfold out0_A_2 kernelRun0_A
  dsimp only
  sl_unfold_run_names
  refine (View.read_writes_cons_unit_of_mem (off' := ![0, 0]) VO0_2 _ _ _ _ (ix2 l k) (ix2 l k) rfl (fun b => ?_)).trans
    (fill_loaded i arg2 harg2 arg3 harg3 x0 x1 a ha l k)
  fin_cases b <;> exact (Nat.zero_add _).symm

/-- The last point of a row leaves the filled block with its last column, the mask's, stored over. -/
theorem block_B (hc0 : cond0_0 i) (hj : (i 1).val = 7) (l : Fin 512) (k : Fin 4096) :
    out0_B_2 c i arg2 harg2 arg3 harg3 arg4 harg4 hc0 x0 x1 (ix2 l k)
      = entry (x0 (ix2 a l)) (x1 (ix2 a l)) ((i 1).val * 4096 + k.val) := by
  have hk := k.isLt
  unfold out0_B_2 kernelRun0_B
  dsimp only
  sl_unfold_run_names
  by_cases h : k.val = 4095
  · rw [show (i 1).val * 4096 + k.val = 32767 by omega]
    refine (View.read_writes_cons_unit_of_mem (off' := ![0, 4095]) VO0_2 _ _ _ _ (ix2 l k) (ix2 l (0 : Fin 1)) rfl (fun b => ?_)).trans
      (mask_loaded i arg2 harg2 arg3 harg3 x0 x1 a ha l)
    fin_cases b
    · exact (Nat.zero_add _).symm
    · exact h
  · rw [entry_of_ne _ _ _ (by omega)]
    refine (View.read_writes_cons_unit_of_not_mem (off' := ![0, 4095]) VO0_2 _ _ _ _ (ix2 l k) rfl (1 : Fin 2)
      (.inl (show k.val < 4095 by omega))).trans ?_
    refine (View.read_writes_cons_unit_of_mem (off' := ![0, 0]) VO0_2 _ _ _ _ (ix2 l k) (ix2 l k) rfl (fun b => ?_)).trans
      (fill_loaded i arg2 harg2 arg3 harg3 x0 x1 a ha l k)
    fin_cases b <;> exact (Nat.zero_add _).symm

end Cert.Fill

end
-- ==== Proof.KernelValue.lean ====
/- The kernel's result: the pipeline's blocks put together are the whole output of entries, and the reshape after it reads
   that output position by position. -/
module

public import proofs.«01_k».proof.Proof.Block
public import Idealize.ShloMosaic.Lib.Pipeline.ValueKit
public import Idealize.ShloMosaic.Lib.ValueLayout
public import Idealize.ShloMosaic.Lib.StableHlo.Run

@[expose] public section

noncomputable section

namespace Cert.Fill

open Idealize.ShloMosaic Idealize.ShloMosaic.TcCoe Idealize.SL.Sem
open Cert.KernelIdeal Cert.KernelIdeal.Gen
open Idealize.ShloMosaic.Pipeline (Dat)

/-- The output before its reshape: row `512 a + l` holds the entries of position `(a, l)`. -/
def flat (X : Vec Ideal S4x512 .f32) (W : Vec Ideal S4x512 .i32) : Vec Ideal S2048x32768 .f32 := fun y =>
  have h : (y 0).val < 2048 := (y 0).isLt
  let p : S4x512.Idx := ix2 (⟨(y 0).val / 512, by omega⟩ : Fin 4) (⟨(y 0).val % 512, by omega⟩ : Fin 512)
  entry (X p) (W p) (y 1).val

/-- The flat output at a row written as a position. -/
theorem flat_at (X : Vec Ideal S4x512 .f32) (W : Vec Ideal S4x512 .i32) (y : S2048x32768.Idx) (a : Fin 4) (l : Fin 512) (v : Nat)
    (h0 : (y 0).val = a.val * 512 + l.val) (h1 : (y 1).val = v) : flat X W y = entry (X (ix2 a l)) (W (ix2 a l)) v := by
  have hl := l.isLt
  unfold flat
  have e0 : (⟨(y 0).val / 512, by have := a.isLt; omega⟩ : Fin 4) = a := Fin.ext (by show (y 0).val / 512 = a.val; omega)
  have e1 : (⟨(y 0).val % 512, by omega⟩ : Fin 512) = l := Fin.ext (by show (y 0).val % 512 = l.val; omega)
  simp only [e0, e1, h1]

/-- The reshape of the flat output at an index: the entry of its position and vocabulary index. -/
theorem flat_reshape (X : Vec Ideal S4x512 .f32) (W : Vec Ideal S4x512 .i32) (h : S2048x32768.ShapeCasts S4x512x32768)
    (a : Fin 4) (l : Fin 512) (v : Fin 32768) :
    shapeCast S4x512x32768 (flat X W) h (ix3 a l v) = entry (X (ix2 a l)) (W (ix2 a l)) v.val := by
  have ha := a.isLt
  have hl := l.isLt
  refine (shapeCast_apply (flat X W) h (ix3 a l v) (ix2 (⟨a.val * 512 + l.val, by omega⟩ : Fin 2048) v) ?_).trans
    (flat_at X W _ a l v.val rfl rfl)
  rw [Shape.rowMajor_val_three, Shape.rowMajor_val_two]
  rfl

variable (m : (ℓ : Loc nD τ sig) → Buf (Elt Ideal) ℓ) (ρ : Dev nD → PrngReg)

/-- Every window's block index at a point: the inputs' is the origin, the output's the point's coordinates. -/
theorem block_index : ∀ t : Fin cfg0.N, win0_0.index t = ![0, 0] ∧ win0_1.index t = ![0, 0]
    ∧ win0_2.index t = ![t.val / 8, t.val % 8] :=
  (by decide +kernel : ∀ t : Fin grid0.N, win0_0.index t = ![0, 0] ∧ win0_1.index t = ![0, 0]
    ∧ win0_2.index t = ![t.val / 8, t.val % 8])

/-- The first input's block is the whole array of log-SNRs. -/
theorem input0 (c : Dev nD) (t : Fin cfg0.N) : iblk m c 0 t = m ((c : Thread nD τ).loc main_arg0) := by
  blk_ext! [iblk, V_main_arg0, (block_index t).1]

/-- The second input's block is the whole array of token ids. -/
theorem input1 (c : Dev nD) (t : Fin cfg0.N) : iblk m c 1 t = m ((c : Thread nD τ).loc main_arg1) := by
  blk_ext! [iblk, V_main_arg1, (block_index t).2.1]

/-- What a point leaves in its output block, at an index. -/
theorem outs_at (c : Dev nD) (t : Fin cfg0.N) (a : Fin 4) (ha : t.val / 8 = a.val) (l : Fin 512) (k : Fin 4096) :
    outsAt0 m c t.val t.isLt (ix2 l k)
      = entry (m ((c : Thread nD τ).loc main_arg0) (ix2 a l)) (m ((c : Thread nD τ).loc main_arg1) (ix2 a l)) (t.val % 8 * 4096 + k.val) := by
  have ht : t.val < 32 := Nat.lt_of_lt_of_eq t.isLt N_0
  have e0 : (grid0.coords t 0).val = t.val / 8 % 4 := Pipeline.Grid.coords_val t 0 (by decide) rfl
  have e1 : (grid0.coords t 1).val = t.val / 1 % 8 := Pipeline.Grid.coords_val t 1 (by decide) rfl
  have c0 : (grid0.coords t 0).val = a.val := by omega
  have c1 : (grid0.coords t 1).val = t.val % 8 := by omega
  rw [← c1]
  by_cases h : t.val % 8 = 7
  · rw [outsAt0_B m c t h, input0, input1]
    exact block_B _ _ _ _ _ _ _ _ _ _ a c0 _ (by omega) l k
  · rw [outsAt0_A m c t h, input0, input1]
    exact block_A _ _ _ _ _ _ _ _ _ _ a c0 _ (by omega) l k

/-- The pipeline's output after the run is the flat output. -/
theorem output_flat (c : Dev nD) : (dats m 0 c).arrAt 2 cfg0.N
    = flat (m ((c : Thread nD τ).loc main_arg0)) (m ((c : Thread nD τ).loc main_arg1)) := by
  refine (dats m 0 c).arrAt_eq_of_covers 2 _ (by decide +kernel) fun t hf y => ?_
  have ht : t.val < 32 := Nat.lt_of_lt_of_eq t.isLt N_0
  blk_simp
  rw [after0_2, eq_ix2 y]
  refine (outs_at m c t ⟨t.val / 8, by omega⟩ rfl (y 0) (y 1)).trans (flat_at _ _ _ _ _ _ ?_ ?_).symm
  · blk_simp [(block_index t).2.2]
  · blk_simp [(block_index t).2.2]

/-- The result after the reshape, at an index. -/
theorem result_entry (c : Dev nD) (a : Fin 4) (l : Fin 512) (v : Fin 32768) :
    Pipeline.afterTail₀ cfgs (dats m) 0 (V0 m) [hostOps1] c main_v1 (ix3 a l v)
      = entry (m ((c : Thread nD τ).loc main_arg0) (ix2 a l)) (m ((c : Thread nD τ).loc main_arg1) (ix2 a l)) v.val := by
  unfold Pipeline.afterTail₀
  simp only [List.flatten_cons, List.flatten_nil, List.append_nil, StableHlo.after_cons, StableHlo.after_nil]
  rw [StableHlo.reshape_result]
  refine Eq.trans (congrArg (fun X => shapeCast S4x512x32768 X shapeCasts_S2048x32768_S4x512x32768 (ix3 a l v))
    ((Pipeline.withArrays_arr spec0 winFacts0.arr_inj c (V0 m c) (fun w => (dats m 0 c).arrAt w cfg0.N) 2).trans (output_flat m c))) ?_
  exact flat_reshape _ _ _ a l v

end Cert.Fill

end
-- ==== Proof.Scatter.lean ====
/- The reference's scatter-add, read at an index: where each update lands, and the sum there when every update's first two
   index words are its own coordinates. -/
module

public import proofs.«01_k».proof.ReferenceIdeal
public import proofs.«01_k».proof.Proof.Gen.ReferenceIdeal
public import Idealize.ShloMosaic.Lib.Routing.OpsPair
public import Idealize.ShloMosaic.Lib.Pointwise.Index
public import Idealize.ShloMosaic.PureOps.Ideal

@[expose] public section

noncomputable section

open scoped BigOperators

namespace Cert.Fill

open Idealize.ShloMosaic Cert.ReferenceIdeal Cert.ReferenceIdeal.Gen

/-- The reference's scatter dimensions. -/
abbrev dims : ScatterDims S4x512x32768 S4x512x3 S4x512 := scatter_S4x512x32768_S4x512x3_S4x512_n_012_012_2

/-- Update `(a, b)` reads component `k` of its index vector at `(a, b, k)`. -/
theorem dims_start (I : IVec S4x512x3 32) (a : Fin 4) (b : Fin 512) (k : Fin 3) :
    dims.start (ix2 a b) I k = (I (ix3 a b k)).toInt := by
  have hm : k ∈ dims.scatterDimsToOperandDims := by
    show k ∈ ([0, 1, 2] : List (Fin 3))
    fin_cases k <;> decide
  unfold ScatterDims.start
  rw [dif_pos hm]
  refine congrArg (fun q => (I q).toInt) (funext fun e => Fin.ext ?_)
  fin_cases k <;> fin_cases e <;> rfl

/-- The scatter has no window: the window coordinate is zero on every axis. -/
theorem dims_window (a : Fin 4) (b : Fin 512) (k : Fin 3) : dims.window (ix2 a b) k = 0 := by
  fin_cases k <;> rfl

/-- Update `(a, b)` lands at `(i, l, v)` exactly when its three index words, read signed, are `i`, `l` and `v`. -/
theorem dims_lands (I : IVec S4x512x3 32) (a : Fin 4) (b : Fin 512) (i : Fin 4) (l : Fin 512) (v : Fin 32768) :
    dims.resultIdx? (ix2 a b) I = some (ix3 i l v) ↔
      (I (ix3 a b 0)).toInt = i.val ∧ (I (ix3 a b 1)).toInt = l.val ∧ (I (ix3 a b 2)).toInt = v.val := by
  rw [Routing.resultIdx?_eq_some]
  constructor
  · intro h
    have h0 := h 0
    have h1 := h 1
    have h2 := h 2
    rw [dims_start, dims_window] at h0 h1 h2
    exact ⟨by simpa using h0, by simpa using h1, by simpa using h2⟩
  · rintro ⟨h0, h1, h2⟩ e
    rw [dims_start, dims_window]
    fin_cases e
    · simpa using h0
    · simpa using h1
    · simpa using h2

/-- A scatter-add whose update `(a, b)` goes to row `(a, b)`, at the vocabulary index its third word names: each element
    gains its row's update when the word names it, and nothing otherwise. -/
theorem scatter_rows (X : FVec Ideal S4x512x32768 .f32) (I : IVec S4x512x3 32) (U : FVec Ideal S4x512 .f32)
    (h0 : ∀ (a : Fin 4) (b : Fin 512), (I (ix3 a b 0)).toInt = a.val)
    (h1 : ∀ (a : Fin 4) (b : Fin 512), (I (ix3 a b 1)).toInt = b.val)
    (i : Fin 4) (l : Fin 512) (v : Fin 32768) :
    (Host.scatterAdd dims X I U : FVec Ideal S4x512x32768 .f32) (ix3 i l v)
      = (X (ix3 i l v) + if (I (ix3 i l 2)).toInt = v.val then U (ix2 i l) else 0 : EReal) := by
  unfold Host.scatterAdd
  rw [Ideal.hostScatterAdd_def]
  unfold Ideal.hostScatterAdd
  refine congrArg (fun q : EReal => X (ix3 i l v) + q) ?_
  have key : ∀ j : S4x512.Idx, dims.resultIdx? j I = some (ix3 i l v) ↔
      j = ix2 i l ∧ (I (ix3 i l 2)).toInt = v.val := by
    intro j
    obtain ⟨a, b, rfl⟩ : ∃ (a : Fin 4) (b : Fin 512), j = ix2 a b := ⟨j 0, j 1, eq_ix2 j⟩
    rw [dims_lands, h0, h1]
    constructor
    · rintro ⟨e0, e1, e2⟩
      obtain rfl : a = i := Fin.ext (by exact_mod_cast e0)
      obtain rfl : b = l := Fin.ext (by exact_mod_cast e1)
      exact ⟨rfl, e2⟩
    · rintro ⟨e, e2⟩
      obtain rfl : a = i := congrFun e 0
      obtain rfl : b = l := congrFun e 1
      exact ⟨rfl, rfl, e2⟩
  by_cases hv : (I (ix3 i l 2)).toInt = v.val
  · rw [if_pos hv]
    have hs : (Finset.univ.filter fun j => dims.resultIdx? j I = some (ix3 i l v)) = {ix2 i l} := by
      ext j
      simp only [Finset.mem_filter, Finset.mem_univ, true_and, Finset.mem_singleton, key, hv, and_true]
    rw [hs, Finset.sum_singleton]
  · rw [if_neg hv]
    have hs : (Finset.univ.filter fun j => dims.resultIdx? j I = some (ix3 i l v)) = ∅ := by
      ext j
      simp only [Finset.mem_filter, Finset.mem_univ, true_and, Finset.notMem_empty, key, hv, and_false]
    rw [hs, Finset.sum_empty]

end Cert.Fill

end
-- ==== Proof.RefValue.lean ====
/- The reference's result, read at an index: when no token id is negative it is the entry of `Spec.lean`. -/
module

public import proofs.«01_k».proof.Proof.Spec
public import proofs.«01_k».proof.Proof.Scatter
public import proofs.«01_k».proof.Proof.Gen.ReferenceIdeal.Run
public import Idealize.ShloMosaic.Lib.Pointwise
public import Idealize.ShloMosaic.Lib.WordCmp

@[expose] public section

noncomputable section

namespace Cert.Fill

open Idealize.ShloMosaic Idealize.ShloMosaic.TcCoe Idealize.SL.Sem
open Cert.ReferenceIdeal Cert.ReferenceIdeal.Gen Cert.ReferenceIdeal.Value

/-- The wrap of a negative index leaves a word below 2³¹ as it is, and reads it as its value. -/
theorem wrap_toInt (x a : BitVec 32) (h : x.toNat < 2 ^ 31) :
    (Scalar.select (IntOp.cmpi .slt x 0#32) a x).toInt = x.toNat := by
  rw [Routing.wrap_of_lt x a h, WordCmp.toInt_eq_toNat_of_lt_half h]

/-- A coordinate as a 32-bit word is below 2³¹ and its value is the coordinate. -/
theorem coord_word (n : Nat) (h : n < 2 ^ 31) : (BitVec.ofNat 32 n).toNat = n := by
  rw [BitVec.toNat_ofNat]; exact Nat.mod_eq_of_lt (by omega)

/-- A one-bit comparison converted to a float: one when the words agree, zero when they do not. -/
theorem indicator (x y : BitVec 32) :
    (FloatOps.uitofp (F := Ideal) .f32 (IntOp.cmpi .eq x y) : EReal) = if x = y then 1 else 0 := by
  by_cases h : x = y
  · rw [if_pos h, StableHlo.Predicate.cmpi_eq_iff.2 h]
    show ((((1#1 : BitVec 1).toNat : ℕ) : ℝ) : EReal) = 1
    simp
  · have h0 : IntOp.cmpi .eq x y = 0#1 := by
      rcases BitVec.eq_zero_or_eq_one (IntOp.cmpi .eq x y) with e | e
      · exact e
      · exact absurd (StableHlo.Predicate.cmpi_eq_iff.1 e) h
    rw [if_neg h, h0]
    show ((((0#1 : BitVec 1).toNat : ℕ) : ℝ) : EReal) = 0
    simp

/-- The reference's entry: one less the weight, times the mask's indicator, plus the weight where the index word names
    the vocabulary index. Off the mask the product is zero whatever the first factor is. -/
theorem entry_of_product (x : EReal) (w : BitVec 32) (v : Nat) (hv : v < 32768) :
    (1 - alpha x) * (if (32767#32 : BitVec 32) = BitVec.ofNat 32 v then (1 : EReal) else 0)
      + (if (w.toNat : Int) = (v : Int) then alpha x else 0) = entry x w v := by
  have e : ((32767#32 : BitVec 32) = BitVec.ofNat 32 v) ↔ v = 32767 := by
    rw [← BitVec.toNat_inj, coord_word v (by omega)]
    show 32767 = v ↔ v = 32767
    exact eq_comm
  unfold entry
  by_cases h : v = 32767
  · simp only [e, h, if_true, mul_one, Nat.cast_inj]
  · simp only [e, h, if_false, mul_zero, Nat.cast_inj]

/-- The reference's result at an index: the entry of the position's log-SNR and token id. -/
theorem ref_entry (m : (ℓ : Loc nD τ sig) → Buf (Elt Ideal) ℓ) (c : Dev nD)
    (hid : ∀ (i : Fin 4) (l : Fin 512), BitVec.toNat (m ((c.tc : Thread nD τ).loc main_arg1) (ix2 i l)) < 2 ^ 31)
    (i : Fin 4) (l : Fin 512) (v : Fin 32768) :
    res_main_v44 m c (ix3 i l v)
      = entry (m ((c.tc : Thread nD τ).loc main_arg0) (ix2 i l)) (m ((c.tc : Thread nD τ).loc main_arg1) (ix2 i l)) v.val := by
  unfold res_main_v44
  refine (scatter_rows _ _ _ ?_ ?_ i l v).trans ?_
  · intro a b
    have ha := a.isLt
    pointwise
    rw [wrap_toInt _ _ (by rw [coord_word _ (by omega)]; omega), coord_word _ (by omega)]
  · intro a b
    have hb := b.isLt
    pointwise
    rw [wrap_toInt _ _ (by rw [coord_word _ (by omega)]; omega), coord_word _ (by omega)]
  · pointwise
    rw [wrap_toInt _ _ (hid i l), indicator]
    exact entry_of_product _ _ _ v.isLt

end Cert.Fill

end
-- ==== Proof.Pre.lean ====
/- The precondition, read: where it holds, every token id's word is below 2³¹. -/
module

public import proofs.«01_k».proof.Pre_ids_not_negative
public import Idealize.ShloMosaic.Lib.Pointwise
public import Idealize.ShloMosaic.Lib.ReduceAll
public import Idealize.ShloMosaic.Lib.WordCmp

@[expose] public section

noncomputable section

namespace Cert.Fill

open Idealize.ShloMosaic Cert.Pre_ids_not_negative

/-- The shape relations the precondition states. -/
theorem pre_facts : Cert.Pre_ids_not_negative.Facts := by constructor <;> decide

/-- Where the precondition's word is one, each token id is not negative: its word is below 2³¹. -/
theorem id_lt [Cert.Pre_ids_not_negative.Facts] (x : FVec Ideal S4x512 .f32) (w : IVec S4x512 32)
    (h : Cert.Pre_ids_not_negative.fn (F := Ideal) x w = fun _ => 1#1) (a : Fin 4) (l : Fin 512) : (w (ix2 a l)).toNat < 2 ^ 31 := by
  haveI : Subsingleton S_.Idx := ⟨fun p q => funext fun d => d.elim0⟩
  have e := congrFun h ix0
  unfold Cert.Pre_ids_not_negative.fn at e
  have e1 := Host.reduce_andi_all _ _ _ _ _ e (ix2 a l)
  have e2 : IntOp.cmpi .sge (w (ix2 a l)) 0#32 = 1#1 := e1
  rw [WordCmp.cmpi_sge_zero, WordCmp.ofBool_decide_eq_one_iff] at e2
  exact e2

end Cert.Fill

end
-- ==== Proof.lean ====
/- The certificate: the frames of the three programs, and that the kernel and the reference end with equal results over the
   extended reals wherever no token id is negative. The common result is the tensor of `Cert.Fill.entry` (Proof/Spec.lean):
   Proof/KernelValue.lean reads it off the kernel's run, Proof/RefValue.lean off the reference's, Proof/Pre.lean reads the
   precondition. -/
module

public import proofs.«01_k».proof.Defs
public import proofs.«01_k».proof.Proof.KernelValue
public import proofs.«01_k».proof.Proof.RefValue
public import proofs.«01_k».proof.Proof.Pre
public import proofs.«01_k».proof.Proof.Gen.Kernel.Frame
public import proofs.«01_k».proof.Proof.Gen.KernelIdeal.Frame
public import proofs.«01_k».proof.Proof.Gen.ReferenceIdeal.Run
public import Idealize.ShloMosaic.Lib.Claim
public import Idealize.ShloMosaic.Lib.Quiescent

@[expose] public section

noncomputable section

namespace Cert.Proof

open Idealize.ShloMosaic Idealize.ShloMosaic.TcCoe Idealize.SL.Sem Cert.Fill

/-- The kernel's run: it ends with its result named by the lines after the pipeline, and its arguments unchanged. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v1)
            = Pipeline.afterTail₀ Cert.KernelIdeal.cfgs (Cert.KernelIdeal.Gen.dats m) 0 (Cert.KernelIdeal.Gen.V0 m)
                [Cert.KernelIdeal.Gen.hostOps1] c Cert.KernelIdeal.main_v1
          ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)) :=
  (θ_run Cert.KernelIdeal.defs _ _).mono (fun _ h c => ⟨(h.1 c).2 Cert.KernelIdeal.main_v1 (by decide), h.2 c⟩)
    (θ_run_and (Cert.KernelIdeal.Gen.run_main m g) (Cert.KernelIdeal.Gen.unchanged m g))

/-- The reference's frame: its run keeps the arguments, and it declares no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => (h c).2, sem_eq_zero_of_no_sems (by decide) r.2⟩)
    (Cert.ReferenceIdeal.Value.run m g)

/-- The kernel and the reference end with equal results where no token id is negative: at each index both are the entry. -/
theorem results_equal : Cert.algebraic_KernelIdeal_ReferenceIdeal_pre_ids_not_negative (hPre_ids_not_negative := pre_facts) := by
  intro m g m' g' hpre hagree
  refine ⟨_, kernel_run m g, (θ_run Cert.ReferenceIdeal.defs _ _).mono (fun r h c => ⟨(h c).1.trans ?_, (h c).2⟩)
    (Cert.ReferenceIdeal.Value.run m' g')⟩
  have hid : ∀ (a : Fin 4) (l : Fin 512), BitVec.toNat (m' ((c.tc : Thread Cert.ReferenceIdeal.nD Cert.ReferenceIdeal.τ).loc
      Cert.ReferenceIdeal.main_arg1) (ix2 a l)) < 2 ^ 31 := fun a l => by
    rw [(hagree c).2]
    exact @id_lt pre_facts _ _ (hpre c) a l
  funext y
  rw [eq_ix3 y]
  refine (ref_entry m' c hid (y 0) (y 1) (y 2)).trans (Eq.trans ?_ (result_entry m c (y 0) (y 1) (y 2)).symm)
  rw [(hagree c).1, (hagree c).2]

/-- The certificate. -/
theorem claim : Cert.Claim :=
  ⟨Cert.Kernel.Gen.facts, Cert.KernelIdeal.Gen.facts, Cert.ReferenceIdeal.Gen.facts, pre_facts,
    fun m g _ => Cert.Kernel.Gen.frame m g, fun m g _ => Cert.KernelIdeal.Gen.frame m g, fun m g _ => Cert.KernelIdeal.Gen.frame m g,
    fun m g _ => reference_frame m g, fun m g _ => reference_frame m g, trivial, results_equal⟩

end Cert.Proof

end
